-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_named_and_finite [hPre_rows_named_and_finite : Cert.Pre_rows_named_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_and_finite [hPre_rows_named_and_finite : Cert.Pre_rows_named_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_rows_named_and_finite [hKernelIdeal : Cert.KernelIdeal.Facts] [hPre_rows_named_and_finite : Cert.Pre_rows_named_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rows_named_and_finite [hReferenceIdeal : Cert.ReferenceIdeal.Facts] [hPre_rows_named_and_finite : Cert.Pre_rows_named_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_rows_named_and_finite [hKernelIdeal : Cert.KernelIdeal.Facts] [hReferenceIdeal : Cert.ReferenceIdeal.Facts] [hPre_rows_named_and_finite : Cert.Pre_rows_named_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rows_named_and_finite : Cert.Pre_rows_named_and_finite.Facts),
    quiescent_Kernel (hKernel := hKernel)
    ∧ quiescent_KernelIdeal (hKernelIdeal := hKernelIdeal)
    ∧ quiescent_KernelIdeal_pre_rows_named_and_finite (hKernelIdeal := hKernelIdeal) (hPre_rows_named_and_finite := hPre_rows_named_and_finite)
    ∧ quiescent_ReferenceIdeal (hReferenceIdeal := hReferenceIdeal)
    ∧ quiescent_ReferenceIdeal_pre_rows_named_and_finite (hReferenceIdeal := hReferenceIdeal) (hPre_rows_named_and_finite := hPre_rows_named_and_finite)
    ∧ preserves_Kernel_KernelIdeal
    ∧ algebraic_KernelIdeal_ReferenceIdeal_pre_rows_named_and_finite (hKernelIdeal := hKernelIdeal) (hReferenceIdeal := hReferenceIdeal) (hPre_rows_named_and_finite := hPre_rows_named_and_finite)
-- ==== Pre_rows_named_and_finite.lean ====
abbrev S16384x4 : Shape := ⟨2, ![16384, 4]⟩
abbrev S16384x30 : Shape := ⟨2, ![16384, 30]⟩
abbrev S8x16 : Shape := ⟨2, ![8, 16]⟩
abbrev S10x16 : Shape := ⟨2, ![10, 16]⟩
abbrev S1000000x16 : Shape := ⟨2, ![1000000, 16]⟩
abbrev S94x64 : Shape := ⟨2, ![94, 64]⟩
abbrev S64 : Shape := ⟨1, ![64]⟩
abbrev S64x32 : Shape := ⟨2, ![64, 32]⟩
abbrev S32 : Shape := ⟨1, ![32]⟩
abbrev S33x1 : Shape := ⟨2, ![33, 1]⟩
abbrev S1 : Shape := ⟨1, ![1]⟩
abbrev S_ : Shape := ⟨0, ![]⟩
abbrev S1x1 : Shape := ⟨2, ![1, 1]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  slices_S10x16_S8x16_0_0 : S10x16.Slices ![0, 0] S8x16
  slices_S1000000x16_S8x16_0_0 : S1000000x16.Slices ![0, 0] S8x16
  slices_S33x1_S1x1_0_0 : S33x1.Slices ![0, 0] S1x1
  shapeCasts_S1x1_S_ : S1x1.ShapeCasts S_

variable [Facts]

def fn_part1 {F : FTy → Type} [FloatOps F] (main_arg4 : FVec F S1000000x16 .f32) (main_arg5 : FVec F S1000000x16 .f32) (main_arg10 : FVec F S33x1 .f32) (main_v16 : IVec S_ 1) : IVec S_ 1 :=
  let main_v17 : FVec F S8x16 .f32 := (extractStridedSlice S8x16 ![0, 0] · slices_S1000000x16_S8x16_0_0) main_arg4
  let main_v18 : FVec F S8x16 .f32 := Host.absf main_v17
  let main_cst_5 : FVec F S_ .f32 := constant S_ .f32 0x7F800000#32
  let main_v19 : FVec F S8x16 .f32 := broadcastInDim S8x16 ![] bcast_S_S8x16 main_cst_5
  let main_v20 : IVec S8x16 1 := cmpf .olt main_v18 main_v19
  let main_c_6 : IVec S_ 1 := constantI S_ 1 1#1
  let main_v21 : IVec S_ 1 := (fun x v => Host.reduce IntOp.andi x v reducesTo_S8x16_S_d0_1 h_S_) main_v20 main_c_6
  let main_v22 : IVec S_ 1 := andi main_v16 main_v21
  let main_v23 : FVec F S8x16 .f32 := (extractStridedSlice S8x16 ![0, 0] · slices_S1000000x16_S8x16_0_0) main_arg5
  let main_v24 : FVec F S8x16 .f32 := Host.absf main_v23
  let main_cst_7 : FVec F S_ .f32 := constant S_ .f32 0x7F800000#32
  let main_v25 : FVec F S8x16 .f32 := broadcastInDim S8x16 ![] bcast_S_S8x16 main_cst_7
  let main_v26 : IVec S8x16 1 := cmpf .olt main_v24 main_v25
  let main_c_8 : IVec S_ 1 := constantI S_ 1 1#1
  let main_v27 : IVec S_ 1 := (fun x v => Host.reduce IntOp.andi x v reducesTo_S8x16_S_d0_1 h_S_) main_v26 main_c_8
  let main_v28 : IVec S_ 1 := andi main_v22 main_v27
  let main_v29 : FVec F S1x1 .f32 := (extractStridedSlice S1x1 ![0, 0] · slices_S33x1_S1x1_0_0) main_arg10
  let main_v30 : FVec F S_ .f32 := shapeCast S_ main_v29 shapeCasts_S1x1_S_
  let main_v31 : FVec F S_ .f32 := Host.absf main_v30
  let main_cst_9 : FVec F S_ .f32 := constant S_ .f32 0x7F800000#32
  let main_v32 : IVec S_ 1 := cmpf .olt main_v31 main_cst_9
  let main_v33 : IVec S_ 1 := andi main_v28 main_v32
  main_v33

def fn {F : FTy → Type} [FloatOps F] (main_arg0 : IVec S16384x4 32) (main_arg1 : FVec F S16384x30 .f32) (main_arg2 : FVec F S8x16 .f32) (main_arg3 : FVec F S10x16 .f32) (main_arg4 : FVec F S1000000x16 .f32) (main_arg5 : FVec F S1000000x16 .f32) (main_arg6 : FVec F S94x64 .f32) (main_arg7 : FVec F S64 .f32) (main_arg8 : FVec F S64x32 .f32) (main_arg9 : FVec F S32 .f32) (main_arg10 : FVec F S33x1 .f32) (main_arg11 : FVec F S1 .f32) : IVec S_ 1 :=
  let main_c : IVec S_ 32 := constantI S_ 32 0#32
  let main_v0 : IVec S16384x4 32 := broadcastInDim S16384x4 ![] bcast_S_S16384x4 main_c
  let main_v1 : IVec S16384x4 1 := cmpi .sge main_arg0 main_v0
  let main_c_0 : IVec S_ 32 := constantI S_ 32 8#32
  let main_v2 : IVec S16384x4 32 := broadcastInDim S16384x4 ![] bcast_S_S16384x4 main_c_0
  let main_v3 : IVec S16384x4 1 := cmpi .slt main_arg0 main_v2
  let main_v4 : IVec S16384x4 1 := andi main_v1 main_v3
  let main_c_1 : IVec S_ 1 := constantI S_ 1 1#1
  let main_v5 : IVec S_ 1 := (fun x v => Host.reduce IntOp.andi x v reducesTo_S16384x4_S_d0_1 h_S_) main_v4 main_c_1
  let main_v6 : FVec F S8x16 .f32 := Host.absf main_arg2
  let main_cst : FVec F S_ .f32 := constant S_ .f32 0x7F800000#32
  let main_v7 : FVec F S8x16 .f32 := broadcastInDim S8x16 ![] bcast_S_S8x16 main_cst
  let main_v8 : IVec S8x16 1 := cmpf .olt main_v6 main_v7
  let main_c_2 : IVec S_ 1 := constantI S_ 1 1#1
  let main_v9 : IVec S_ 1 := (fun x v => Host.reduce IntOp.andi x v reducesTo_S8x16_S_d0_1 h_S_) main_v8 main_c_2
  let main_v10 : IVec S_ 1 := andi main_v5 main_v9
  let main_v11 : FVec F S8x16 .f32 := (extractStridedSlice S8x16 ![0, 0] · slices_S10x16_S8x16_0_0) main_arg3
  let main_v12 : FVec F S8x16 .f32 := Host.absf main_v11
  let main_cst_3 : FVec F S_ .f32 := constant S_ .f32 0x7F800000#32
  let main_v13 : FVec F S8x16 .f32 := broadcastInDim S8x16 ![] bcast_S_S8x16 main_cst_3
  let main_v14 : IVec S8x16 1 := cmpf .olt main_v12 main_v13
  let main_c_4 : IVec S_ 1 := constantI S_ 1 1#1
  let main_v15 : IVec S_ 1 := (fun x v => Host.reduce IntOp.andi x v reducesTo_S8x16_S_d0_1 h_S_) main_v14 main_c_4
  let main_v16 : IVec S_ 1 := andi main_v10 main_v15
  fn_part1 (F := F) main_arg4 main_arg5 main_arg10 main_v16
-- ==== Kernel.lean ====
abbrev S16384x4 : Shape := ⟨2, ![16384, 4]⟩
abbrev S16384x30 : Shape := ⟨2, ![16384, 30]⟩
abbrev S8x16 : Shape := ⟨2, ![8, 16]⟩
abbrev S10x16 : Shape := ⟨2, ![10, 16]⟩
abbrev S1000000x16 : Shape := ⟨2, ![1000000, 16]⟩
abbrev S94x64 : Shape := ⟨2, ![94, 64]⟩
abbrev S64 : Shape := ⟨1, ![64]⟩
abbrev S64x32 : Shape := ⟨2, ![64, 32]⟩
abbrev S32 : Shape := ⟨1, ![32]⟩
abbrev S33x1 : Shape := ⟨2, ![33, 1]⟩
abbrev S1 : Shape := ⟨1, ![1]⟩
abbrev S32x16 : Shape := ⟨2, ![32, 16]⟩
abbrev S16384x1 : Shape := ⟨2, ![16384, 1]⟩
abbrev S4096x4 : Shape := ⟨2, ![4096, 4]⟩
abbrev S4096x30 : Shape := ⟨2, ![4096, 30]⟩
abbrev S4096x1 : Shape := ⟨2, ![4096, 1]⟩
abbrev S16x64 : Shape := ⟨2, ![16, 64]⟩
abbrev S8x64 : Shape := ⟨2, ![8, 64]⟩
abbrev S32x64 : Shape := ⟨2, ![32, 64]⟩
abbrev S30x64 : Shape := ⟨2, ![30, 64]⟩
abbrev S1x1 : Shape := ⟨2, ![1, 1]⟩
abbrev S32x1 : Shape := ⟨2, ![32, 1]⟩
abbrev S16x1 : Shape := ⟨2, ![16, 1]⟩
abbrev S32x81 : Shape := ⟨2, ![32, 81]⟩
abbrev S4x32 : Shape := ⟨2, ![4, 32]⟩
abbrev S4096x32 : Shape := ⟨2, ![4096, 32]⟩
abbrev S4096x81 : Shape := ⟨2, ![4096, 81]⟩
abbrev S4096x64 : Shape := ⟨2, ![4096, 64]⟩
abbrev S4096x16 : Shape := ⟨2, ![4096, 16]⟩
abbrev S1x64 : Shape := ⟨2, ![1, 64]⟩
abbrev S1x32 : Shape := ⟨2, ![1, 32]⟩

abbrev nBuf : Space → Nat
  | .hbm => 17
  | .vmem => 13
  | .smem => 0
  | _ => 0

abbrev bufTy : (tb : Table) → Fin (tcTables nBuf tb) → BufTy
  | .hbm, ⟨0, _⟩ => ⟨S16384x4, .i32⟩
  | .hbm, ⟨1, _⟩ => ⟨S16384x30, .f32⟩
  | .hbm, ⟨2, _⟩ => ⟨S8x16, .f32⟩
  | .hbm, ⟨3, _⟩ => ⟨S10x16, .f32⟩
  | .hbm, ⟨4, _⟩ => ⟨S1000000x16, .f32⟩
  | .hbm, ⟨5, _⟩ => ⟨S1000000x16, .f32⟩
  | .hbm, ⟨6, _⟩ => ⟨S94x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S33x1, .f32⟩
  | .hbm, ⟨11, _⟩ => ⟨S1, .f32⟩
  | .hbm, ⟨12, _⟩ => ⟨S8x16, .f32⟩
  | .hbm, ⟨13, _⟩ => ⟨S8x16, .f32⟩
  | .hbm, ⟨14, _⟩ => ⟨S8x16, .f32⟩
  | .hbm, ⟨15, _⟩ => ⟨S32x16, .f32⟩
  | .hbm, ⟨16, _⟩ => ⟨S16384x1, .f32⟩
  | .local _ .vmem, ⟨0, _⟩ => ⟨S4096x4, .i32⟩
  | .local _ .vmem, ⟨1, _⟩ => ⟨S4096x4, .i32⟩
  | .local _ .vmem, ⟨2, _⟩ => ⟨S4096x30, .f32⟩
  | .local _ .vmem, ⟨3, _⟩ => ⟨S4096x30, .f32⟩
  | .local _ .vmem, ⟨4, _⟩ => ⟨S32x16, .f32⟩
  | .local _ .vmem, ⟨5, _⟩ => ⟨S94x64, .f32⟩
  | .local _ .vmem, ⟨6, _⟩ => ⟨S64, .f32⟩
  | .local _ .vmem, ⟨7, _⟩ => ⟨S64x32, .f32⟩
  | .local _ .vmem, ⟨8, _⟩ => ⟨S32, .f32⟩
  | .local _ .vmem, ⟨9, _⟩ => ⟨S33x1, .f32⟩
  | .local _ .vmem, ⟨10, _⟩ => ⟨S1, .f32⟩
  | .local _ .vmem, ⟨11, _⟩ => ⟨S4096x1, .f32⟩
  | .local _ .vmem, ⟨12, _⟩ => ⟨S4096x1, .f32⟩
  | _, _ => ⟨S16384x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S94x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S33x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x4 : Shape := ⟨2, ![16384, 4]⟩
abbrev S16384x30 : Shape := ⟨2, ![16384, 30]⟩
abbrev S8x16 : Shape := ⟨2, ![8, 16]⟩
abbrev S10x16 : Shape := ⟨2, ![10, 16]⟩
abbrev S1000000x16 : Shape := ⟨2, ![1000000, 16]⟩
abbrev S94x64 : Shape := ⟨2, ![94, 64]⟩
abbrev S64 : Shape := ⟨1, ![64]⟩
abbrev S64x32 : Shape := ⟨2, ![64, 32]⟩
abbrev S32 : Shape := ⟨1, ![32]⟩
abbrev S33x1 : Shape := ⟨2, ![33, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x16 : Shape := ⟨2, ![16384, 16]⟩
abbrev S16384x1x16 : Shape := ⟨3, ![16384, 1, 16]⟩
abbrev S16384x4x16 : Shape := ⟨3, ![16384, 4, 16]⟩
abbrev S16384x64 : Shape := ⟨2, ![16384, 64]⟩
abbrev S16384x94 : Shape := ⟨2, ![16384, 94]⟩
abbrev S1x64 : Shape := ⟨2, ![1, 64]⟩
abbrev S16384x32 : Shape := ⟨2, ![16384, 32]⟩
abbrev S1x32 : Shape := ⟨2, ![1, 32]⟩
abbrev S16384x33 : Shape := ⟨2, ![16384, 33]⟩

abbrev nBuf : Space → Nat
  | .hbm => 151
  | .vmem => 0
  | .smem => 0
  | _ => 0

abbrev hbmTy0_0 (i : Nat) : BufTy := match i % 128 with
  | 0 => ⟨S16384x4, .i32⟩
  | 1 => ⟨S16384x30, .f32⟩
  | 2 => ⟨S8x16, .f32⟩
  | 3 => ⟨S10x16, .f32⟩
  | 4 => ⟨S1000000x16, .f32⟩
  | 5 => ⟨S1000000x16, .f32⟩
  | 6 => ⟨S94x64, .f32⟩
  | 7 => ⟨S64, .f32⟩
  | 8 => ⟨S64x32, .f32⟩
  | 9 => ⟨S32, .f32⟩
  | 10 => ⟨S33x1, .f32⟩
  | 11 => ⟨S1, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x16, .f32⟩
  | 33 => ⟨S16384x16, .i1⟩
  | 34 => ⟨S_, .f32⟩
  | 35 => ⟨S16384x16, .f32⟩
  | 36 => ⟨S16384x16, .f32⟩
  | 37 => ⟨S16384x1, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x16, .f32⟩
  | 58 => ⟨S16384x16, .i1⟩
  | 59 => ⟨S_, .f32⟩
  | 60 => ⟨S16384x16, .f32⟩
  | 61 => ⟨S16384x16, .f32⟩
  | 62 => ⟨S16384x1, .i32⟩
  | 63 => ⟨S16384, .i32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S1, .i32⟩
  | 73 => ⟨S_, .i32⟩
  | 74 => ⟨S16384x1, .i32⟩
  | 75 => ⟨S16384x1, .i1⟩
  | 76 => ⟨S1x1, .i32⟩
  | 77 => ⟨S16384x1, .i32⟩
  | 78 => ⟨S16384x1, .i1⟩
  | 79 => ⟨S16384x1, .i1⟩
  | 80 => ⟨S_, .i1⟩
  | 81 => ⟨S16384, .i1⟩
  | 82 => ⟨S16384x16, .f32⟩
  | 83 => ⟨S16384x16, .i1⟩
  | 84 => ⟨S_, .f32⟩
  | 85 => ⟨S16384x16, .f32⟩
  | 86 => ⟨S16384x16, .f32⟩
  | 87 => ⟨S16384x1, .i32⟩
  | 88 => ⟨S16384, .i32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S1, .i32⟩
  | 98 => ⟨S_, .i32⟩
  | 99 => ⟨S16384x1, .i32⟩
  | 100 => ⟨S16384x1, .i1⟩
  | 101 => ⟨S1x1, .i32⟩
  | 102 => ⟨S16384x1, .i32⟩
  | 103 => ⟨S16384x1, .i1⟩
  | 104 => ⟨S16384x1, .i1⟩
  | 105 => ⟨S_, .i1⟩
  | 106 => ⟨S16384, .i1⟩
  | 107 => ⟨S16384x16, .f32⟩
  | 108 => ⟨S16384x16, .i1⟩
  | 109 => ⟨S_, .f32⟩
  | 110 => ⟨S16384x16, .f32⟩
  | 111 => ⟨S16384x16, .f32⟩
  | 112 => ⟨S16384x1x16, .f32⟩
  | 113 => ⟨S16384x1x16, .f32⟩
  | 114 => ⟨S16384x1x16, .f32⟩
  | 115 => ⟨S16384x1x16, .f32⟩
  | 116 => ⟨S16384x4x16, .f32⟩
  | 117 => ⟨S_, .f32⟩
  | 118 => ⟨S16384x16, .f32⟩
  | 119 => ⟨S16384x4x16, .f32⟩
  | 120 => ⟨S_, .f32⟩
  | 121 => ⟨S16384x16, .f32⟩
  | 122 => ⟨S16384x16, .f32⟩
  | 123 => ⟨S16384x16, .f32⟩
  | 124 => ⟨S_, .f32⟩
  | 125 => ⟨S16384x16, .f32⟩
  | 126 => ⟨S16384x16, .f32⟩
  | 127 => ⟨S_, .f32⟩
  | _ => ⟨S16384x4, .i32⟩

abbrev hbmTy0_1 (i : Nat) : BufTy := match i % 128 with
  | 0 => ⟨S16384, .f32⟩
  | 1 => ⟨S16384x1, .f32⟩
  | 2 => ⟨S16384x64, .f32⟩
  | 3 => ⟨S16384x94, .f32⟩
  | 4 => ⟨S16384x64, .f32⟩
  | 5 => ⟨S1x64, .f32⟩
  | 6 => ⟨S16384x64, .f32⟩
  | 7 => ⟨S16384x64, .f32⟩
  | 8 => ⟨S_, .f32⟩
  | 9 => ⟨S16384x64, .f32⟩
  | 10 => ⟨S16384x64, .f32⟩
  | 11 => ⟨S16384x32, .f32⟩
  | 12 => ⟨S1x32, .f32⟩
  | 13 => ⟨S16384x32, .f32⟩
  | 14 => ⟨S16384x32, .f32⟩
  | 15 => ⟨S_, .f32⟩
  | 16 => ⟨S16384x32, .f32⟩
  | 17 => ⟨S16384x32, .f32⟩
  | 18 => ⟨S16384x33, .f32⟩
  | 19 => ⟨S16384x1, .f32⟩
  | 20 => ⟨S1x1, .f32⟩
  | 21 => ⟨S16384x1, .f32⟩
  | 22 => ⟨S16384x1, .f32⟩
  | _ => ⟨S16384x4, .i32⟩

abbrev hbmTy (i : Nat) : BufTy := match i / 128 with
  | 0 => hbmTy0_0 i
  | 1 => hbmTy0_1 i
  | _ => ⟨S16384x4, .i32⟩

abbrev bufTy : (tb : Table) → Fin (tcTables nBuf tb) → BufTy
  | .hbm, ⟨i, _⟩ => hbmTy i
  | _, _ => ⟨S16384x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v8 : Ref sig .tc := ⟨.hbm, 86, rfl⟩
abbrev main_v9 : Ref sig .tc := ⟨.hbm, 87, rfl⟩
abbrev main_v10 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_cst : Ref sig .tc := ⟨.hbm, 117, rfl⟩
abbrev main_v17 : Ref sig .tc := ⟨.hbm, 118, rfl⟩
abbrev main_v18 : Ref sig .tc := ⟨.hbm, 119, rfl⟩
abbrev main_cst_0 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_cst_1 : Ref sig .tc := ⟨.hbm, 124, rfl⟩
abbrev main_v22 : Ref sig .tc := ⟨.hbm, 125, rfl⟩
abbrev main_v23 : Ref sig .tc := ⟨.hbm, 126, rfl⟩
abbrev main_cst_2 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_call4_cst : Ref sig .tc := ⟨.hbm, 136, rfl⟩
abbrev main_call4_v0 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_call5_cst : Ref sig .tc := ⟨.hbm, 143, rfl⟩
abbrev main_call5_v0 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩

abbrev nD : Nat := 1
abbrev τ : Topo := Topo.v7x

variable {F : FTy → Type} [FloatOps F]
-- ==== Proof.Model.lean ====
/-
  The mathematics of the two programs, with no program in it: the score of one row as a function of the row's four
  embeddings, its thirty continuous features and the weights; and the one equation between the two ways of
  summing the products of pairs.
-/
module

public import Idealize.ShloMosaic.PureOps.Ideal
public import Idealize.ShloMosaic.Lib.Pointwise

@[expose] public section

noncomputable section

namespace Cert.Model

open Idealize.ShloMosaic

/-- The number one half, as the programs write it. -/
abbrev half : EReal := Ideal.ofBits .f32 0x3F000000#32

/-- The first hidden layer: the four embeddings and the continuous features times the weights, plus the bias, cut off at
    zero. Embedding `g` meets rows `16 g` to `16 g + 15` of the weights, the continuous features meet rows 64 to 93. -/
def hidden1 (E : Fin 4 → Fin 16 → EReal) (x : Fin 30 → EReal) (W : Fin 94 → Fin 64 → EReal) (b : Fin 64 → EReal)
    (j : Fin 64) : EReal :=
  max (∑ g : Fin 4, ∑ d : Fin 16, E g d * W ⟨g.val * 16 + d.val, by have := g.isLt; have := d.isLt; omega⟩ j
    + ∑ k : Fin 30, x k * W ⟨64 + k.val, by have := k.isLt; omega⟩ j + b j) 0

/-- The second hidden layer, from the first. -/
def hidden2 (h : Fin 64 → EReal) (W : Fin 64 → Fin 32 → EReal) (b : Fin 32 → EReal) (k : Fin 32) : EReal :=
  max (∑ j : Fin 64, h j * W j k + b k) 0

/-- The sum of the products of pairs of embeddings: half of the square of the sum less the sum of the squares, over the
    sixteen components. -/
def pairs (E : Fin 4 → Fin 16 → EReal) : EReal :=
  ∑ d : Fin 16, half * ((∑ g : Fin 4, E g d) * (∑ g : Fin 4, E g d) - ∑ g : Fin 4, E g d * E g d)

/-- The score of one row. -/
def score (E : Fin 4 → Fin 16 → EReal) (x : Fin 30 → EReal) (W1 : Fin 94 → Fin 64 → EReal) (b1 : Fin 64 → EReal)
    (W2 : Fin 64 → Fin 32 → EReal) (b2 : Fin 32 → EReal) (Wo : Fin 33 → EReal) (bo : EReal) : EReal :=
  pairs E * Wo 0
    + ∑ k : Fin 32, hidden2 (hidden1 E x W1 b1) W2 b2 k * Wo ⟨1 + k.val, by have := k.isLt; omega⟩ + bo

/-- An array of extended reals with two axes. -/
abbrev Mat (n m : Nat) : Type := (⟨2, ![n, m]⟩ : Shape).Idx → EReal
/-- An array of extended reals with one axis. -/
abbrev Row (n : Nat) : Type := (⟨1, ![n]⟩ : Shape).Idx → EReal
/-- The categories: four words for each of the 16384 rows. -/
abbrev Cats : Type := (⟨2, ![16384, 4]⟩ : Shape).Idx → BitVec 32

/-- Component `d` of row `p` of table `g`, for the first eight rows of the four tables. -/
def tables (Wt : Mat 8 16) (Wr : Mat 10 16) (Wa Wb : Mat 1000000 16) (g : Fin 4) (p : Fin 8) (d : Fin 16) : EReal :=
  match g with
  | ⟨0, _⟩ => Wt (ix2 p d)
  | ⟨1, _⟩ => Wr (ix2 ⟨p.val, by have := p.isLt; omega⟩ d)
  | ⟨2, _⟩ => Wa (ix2 ⟨p.val, by have := p.isLt; omega⟩ d)
  | ⟨3, _⟩ => Wb (ix2 ⟨p.val, by have := p.isLt; omega⟩ d)

/-- Every category names one of the first eight rows of its table. -/
def InRange (cat : Cats) : Prop := ∀ (i : Fin 16384) (g : Fin 4), (cat (ix2 i g)).toNat < 8

/-- The table row that category `g` of row `i` names. -/
def named (cat : Cats) (i : Fin 16384) (g : Fin 4) : Fin 8 :=
  ⟨(cat (ix2 i g)).toNat % 8, Nat.mod_lt _ (by decide)⟩

/-- A category in range is the word of the row it names. -/
theorem InRange.eq_ofNat {cat : Cats} (h : InRange cat) (i : Fin 16384) (g : Fin 4) :
    cat (ix2 i g) = BitVec.ofNat 32 (named cat i g).val := by
  apply BitVec.eq_of_toNat_eq
  have := h i g
  simp only [named, BitVec.toNat_ofNat]
  omega

/-- The scores of all rows, as a function of the twelve arguments. -/
def scores (cat : Cats) (cont : Mat 16384 30) (Wt : Mat 8 16) (Wr : Mat 10 16) (Wa Wb : Mat 1000000 16)
    (W1 : Mat 94 64) (b1 : Row 64) (W2 : Mat 64 32) (b2 : Row 32) (Wo : Mat 33 1) (bo : Row 1) : Mat 16384 1 :=
  fun i => score (fun g d => tables Wt Wr Wa Wb g (named cat (i 0) g) d) (fun k => cont (ix2 (i 0) k))
    (fun k j => W1 (ix2 k j)) (fun j => b1 (ix1 j)) (fun j k => W2 (ix2 j k)) (fun k => b2 (ix1 k))
    (fun k => Wo (ix2 k 0)) (bo (ix1 0))

/-- One half is a real number. -/
theorem half_eq : half = ((1 / 2 : ℝ) : EReal) := by
  simp [half, Ideal.ofBits, Ideal.ieee, -EReal.coe_mul]
  norm_num

/-- A sum of real numbers, read as extended reals, is the sum in the extended reals. -/
theorem coe_sum {n : Nat} (f : Fin n → ℝ) : ((∑ i, f i : ℝ) : EReal) = ∑ i, (f i : EReal) := by
  induction n with
  | zero => simp
  | succ n ih => rw [Fin.sum_univ_succ, Fin.sum_univ_succ, EReal.coe_add, ih]

/-- Where the embeddings and the weight are finite, the weight may be taken into the sum over the components, and the
    squares may be summed embedding by embedding. -/
theorem pairs_mul (E : Fin 4 → Fin 16 → EReal) (w : EReal) (hE : ∀ g d, ∃ x : ℝ, E g d = x) (hw : ∃ x : ℝ, w = x) :
    ∑ d : Fin 16, (∑ g : Fin 4, E g d) * (∑ g : Fin 4, E g d) * (half * w)
      + ∑ g : Fin 4, (0 - ∑ d : Fin 16, E g d * E g d) * (half * w) = pairs E * w := by
  choose e he using hE
  obtain ⟨v, rfl⟩ := hw
  unfold pairs
  rw [half_eq]
  simp only [he]
  have z : (0 : EReal) = ((0 : ℝ) : EReal) := rfl
  rw [z]
  simp only [← EReal.coe_mul, ← coe_sum, ← EReal.coe_sub, ← EReal.coe_add]
  refine congrArg _ ?_
  simp only [zero_sub, neg_mul, Finset.sum_neg_distrib, Finset.sum_mul, mul_sub, sub_mul, Finset.sum_sub_distrib, Finset.mul_sum]
  rw [← sub_eq_add_neg]
  congr 1
  · refine Finset.sum_congr rfl fun d _ => Finset.sum_congr rfl fun g _ => Finset.sum_congr rfl fun g' _ => ?_
    ring
  · rw [Finset.sum_comm]
    refine Finset.sum_congr rfl fun d _ => Finset.sum_congr rfl fun g _ => ?_
    ring

end Cert.Model

end
-- ==== Proof.Pre.lean ====
/-
  What the precondition says: every category names one of the first eight rows of its table, and those eight rows and
  the first output weight are real numbers.
-/
module

public import proofs.«01_k».proof.Proof.Model
public import proofs.«01_k».proof.Proof.Gen.Pre_rows_named_and_finite
public import Idealize.ShloMosaic.Lib.ReduceAll
public import Idealize.ShloMosaic.Lib.Pointwise

@[expose] public section

set_option maxRecDepth 16384

noncomputable section

namespace Cert.Pre_rows_named_and_finite.Meaning

open Idealize.ShloMosaic Cert.Pre_rows_named_and_finite Cert.Model

/-- A word that is at least zero and below eight, as signed words, is below eight. -/
theorem word_lt (w : BitVec 32) (h0 : IntOp.cmpi .sge w 0#32 = 1#1) (h8 : IntOp.cmpi .slt w 8#32 = 1#1) : w.toNat < 8 := by
  have hb : ∀ b : Bool, BitVec.ofBool b = 1#1 → b = true := by decide
  have h0' := of_decide_eq_true (hb _ h0)
  have h8' := of_decide_eq_true (hb _ h8)
  have := w.isLt
  have e0 : (0#32).toInt = 0 := by decide
  have e8 : (8#32).toInt = 8 := by decide
  rw [e0, BitVec.toInt_eq_toNat_cond] at h0'
  rw [e8, BitVec.toInt_eq_toNat_cond] at h8'
  split at h8' <;> simp_all <;> omega

/-- A value whose magnitude is below infinity is a real number. -/
theorem real_of_abs_lt (x : EReal) (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- An array without axes has one index. -/
instance : Subsingleton S_.Idx := ⟨fun a b => funext fun i => i.elim0⟩

/-- An 8-by-16 array whose magnitudes are all below infinity holds real numbers. -/
theorem real_entries (y : FVec Ideal S8x16 .f32) (h1 : S_.BroadcastsInDim S8x16 ![]) (h2 : S8x16.ReducesTo [0, 1] S_)
    (h3 : 0 < S_.numel) (j : S_.Idx)
    (h : Host.reduce IntOp.andi (cmpf .olt (Host.absf y) (broadcastInDim S8x16 ![] h1 (constant S_ .f32 0x7F800000#32)))
      (constantI S_ 1 1#1) h2 h3 j = 1#1) (i : S8x16.Idx) : ∃ r : ℝ, y i = (r : EReal) :=
  real_of_abs_lt (y i) (Host.reduce_andi_all _ _ _ _ _ h i)

/-- The precondition, read back. -/
theorem meaning (x0 : Cats) (x1 : Mat 16384 30) (x2 : Mat 8 16) (x3 : Mat 10 16)
    (x4 x5 : Mat 1000000 16) (x6 : Mat 94 64) (x7 : Row 64) (x8 : Mat 64 32) (x9 : Row 32) (x10 : Mat 33 1) (x11 : Row 1)
    (h : Cert.Pre_rows_named_and_finite.fn (F := Ideal) x0 x1 x2 x3 x4 x5 x6 x7 x8 x9 x10 x11 = fun _ => 1#1) :
    InRange x0 ∧ (∀ g p d, ∃ r : ℝ, tables x2 x3 x4 x5 g p d = r) ∧ ∃ r : ℝ, x10 (ix2 0 0) = r := by
  have e := congrFun h (fun i => i.elim0)
  unfold fn fn_part1 at e
  dsimp only [andi] at e
  obtain ⟨e, eo⟩ := IntOp.andi_eq_one.1 e
  obtain ⟨e, eb⟩ := IntOp.andi_eq_one.1 e
  obtain ⟨e, ea⟩ := IntOp.andi_eq_one.1 e
  obtain ⟨e, er⟩ := IntOp.andi_eq_one.1 e
  obtain ⟨ec, et⟩ := IntOp.andi_eq_one.1 e
  refine ⟨fun i g => ?_, fun g p d => ?_, ?_⟩
  · obtain ⟨h0, h8⟩ := IntOp.andi_eq_one.1 (Host.reduce_andi_all _ _ _ _ _ ec (ix2 i g))
    exact word_lt _ h0 h8
  · match g with
    | ⟨0, _⟩ => exact real_entries _ _ _ _ _ et (ix2 p d)
    | ⟨1, _⟩ =>
      have := real_entries _ _ _ _ _ er (ix2 p d)
      pointwise at this
      exact this
    | ⟨2, _⟩ =>
      have := real_entries _ _ _ _ _ ea (ix2 p d)
      pointwise at this
      exact this
    | ⟨3, _⟩ =>
      have := real_entries _ _ _ _ _ eb (ix2 p d)
      pointwise at this
      exact this
  · refine real_of_abs_lt _ (Eq.trans (congrArg (fun x => Ideal.cmp .olt (max x (-x)) _) ?_) eo)
    pointwise

end Cert.Pre_rows_named_and_finite.Meaning

end
-- ==== Proof.Lanes.lean ====
/-
  What the kernel reads out of its table of 32 lanes: a row whose four categories are in range selects one lane in each
  group of eight, and the product of that selection with any 32-row matrix is the sum of the four rows selected.
-/
module

public import proofs.«01_k».proof.Proof.Gen.KernelIdeal.Frame
public import Idealize.ShloMosaic.Lib.Pointwise

@[expose] public section

set_option maxRecDepth 16384

noncomputable section

namespace Cert.KernelIdeal.Lanes

open Idealize.ShloMosaic Idealize.ShloMosaic.TcCoe Cert.KernelIdeal Cert.KernelIdeal.Gen

/-- The word the body computes from lane `l` and category number `g`: whether the floor of `l / 8` is `g`. -/
def segment (l g : BitVec 32) : BitVec 32 :=
  BitVec.setWidth 32 (IntOp.cmpi CmpIPredicate.eq
    (Scalar.select
      (IntOp.andi
        (IntOp.cmpi CmpIPredicate.ne
          (IntOp.subi (BitVec.setWidth 32 (IntOp.cmpi CmpIPredicate.sgt l 0#32))
            (BitVec.setWidth 32 (IntOp.cmpi CmpIPredicate.slt l 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector l 8#32) 0#32))
      (IntOp.subi (IntOp.divsi ArithUnit.vector l 8#32) 1#32)
      (IntOp.divsi ArithUnit.vector l 8#32)) g)

/-- It is one on the eight lanes of group `g` and zero elsewhere. -/
theorem segment_eq : ∀ (a : Fin 4) (p : Fin 8) (g : Fin 4),
    (segment (BitVec.ofNat 32 (a.val * 8 + p.val)) (BitVec.ofNat 32 g.val)).toInt = if g = a then 1 else 0 := by
  decide +kernel

/-- The position of a lane in its group. -/
theorem position_eq : ∀ (a : Fin 4) (p : Fin 8),
    (IntOp.andi (BitVec.ofNat 32 (a.val * 8 + p.val)) 7#32).toInt = p.val := by
  decide +kernel

/-- The word of a table row, read as an integer. -/
theorem row_toInt : ∀ p : Fin 8, (BitVec.ofNat 32 p.val).toInt = p.val := by decide +kernel

/-- The product of the selection with a 32-row matrix, at a row whose categories are in range. -/
theorem part_apply (P : FVec Ideal S32x81 .f32) (x : Vec Ideal S4096x4 .i32) (r : Fin 4096) (j : Fin 81)
    (c : Fin 4 → Fin 8) (hx : ∀ g : Fin 4, x (ix2 r g) = BitVec.ofNat 32 (c g).val) :
    k0_pay9 (F := Ideal) P (k0_pay6 x) (iota .tc S4x32 32 [0] iota_S4x32_d0_w32)
      (iota .tc S4x32 32 [1] iota_S4x32_d1_w32) 8#32 k0_pay7 k0_pay8 (ix2 r j)
      = ∑ g : Fin 4, P (ix2 ⟨g.val * 8 + (c g).val, by have := g.isLt; have := (c g).isLt; omega⟩ j) := by
  pointwise [k0_pay9, k0_pay6, k0_pay7, k0_pay8]
  show ∑ l : Fin 32, (if ∑ g : Fin 4, ((((x (ix2 r g) : BitVec 32).toInt : ℝ) : EReal)
        * (((segment (BitVec.ofNat 32 l.val) (BitVec.ofNat 32 g.val)).toInt : ℝ) : EReal))
      = (((IntOp.andi (BitVec.ofNat 32 l.val) 7#32).toInt : ℝ) : EReal) then (1 : EReal) else 0) * P (ix2 l j) = _
  rw [Fin.sum_univ_tiles 4 8 rfl]
  refine Finset.sum_congr rfl fun a _ => ?_
  have cond : ∀ p : Fin 8, (∑ g : Fin 4, ((((x (ix2 r g) : BitVec 32).toInt : ℝ) : EReal)
        * (((segment (BitVec.ofNat 32 (a.val * 8 + p.val)) (BitVec.ofNat 32 g.val)).toInt : ℝ) : EReal))
      = (((IntOp.andi (BitVec.ofNat 32 (a.val * 8 + p.val)) 7#32).toInt : ℝ) : EReal)) ↔ p = c a := by
    intro p
    simp only [segment_eq, position_eq, hx, row_toInt]
    rw [Finset.sum_eq_single a (fun g _ hg => by simp [hg]) (fun h => absurd (Finset.mem_univ _) h)]
    simp only [if_true, Int.cast_one, EReal.coe_one, mul_one, Int.cast_natCast]
    rw [EReal.coe_eq_coe_iff, Nat.cast_inj, ← Fin.ext_iff, eq_comm]
  simp only [cond]
  rw [Finset.sum_eq_single (c a) (fun p _ hp => by rw [if_neg hp, zero_mul]) (fun h => absurd (Finset.mem_univ _) h),
    if_pos rfl, one_mul]

end Cert.KernelIdeal.Lanes

end
-- ==== Proof.Block.lean ====
/-
  What one block of the kernel computes: the score of each of its rows.
-/
module

public import proofs.«01_k».proof.Proof.Lanes
public import proofs.«01_k».proof.Proof.Model

@[expose] public section

set_option maxRecDepth 16384

noncomputable section

namespace Cert.KernelIdeal.Block

open Idealize.ShloMosaic Idealize.ShloMosaic.TcCoe Cert.KernelIdeal Cert.KernelIdeal.Gen Cert.Model

/-- The lane of row `p` in group `g`. -/
abbrev lane (g : Fin 4) (p : Fin 8) : Fin 32 := ⟨g.val * 8 + p.val, by have := g.isLt; have := p.isLt; omega⟩

/-- The first 64 columns of the prepared matrix: a table row through its part of the first layer's weights. -/
theorem prepared_hidden (T : Vec Ideal S32x16 .f32) (W : Vec Ideal S94x64 .f32) (w : Vec Ideal S1x1 .f32)
    (g : Fin 4) (p : Fin 8) (j : Fin 64) :
    k0_pay5 (F := Ideal) T W w (ix2 (lane g p) ⟨j.val, by have := j.isLt; omega⟩)
      = ∑ d : Fin 16, T (ix2 (lane g p) d)
          * W (ix2 ⟨g.val * 16 + d.val, by have := g.isLt; have := d.isLt; omega⟩ j) := by
  have hp := p.isLt
  have hg := g.isLt
  pointwise [k0_pay5, k0_pay3]
  split_ifs with h1 h2 h3
  all_goals
    refine Finset.sum_congr rfl fun d _ => ?_
    exact congrArg₂ (· * ·)
      (congrArg (fun l => T (ix2 l d)) (Fin.ext (by show _ = g.val * 8 + p.val; first | rfl | (dsimp only; omega))))
      (congrArg (fun k => W (ix2 k j)) (Fin.ext (by show _ = g.val * 16 + d.val; dsimp only; omega)))

/-- The next 16 columns: the table row itself. -/
theorem prepared_row (T : Vec Ideal S32x16 .f32) (W : Vec Ideal S94x64 .f32) (w : Vec Ideal S1x1 .f32)
    (l : Fin 32) (d : Fin 16) :
    k0_pay5 (F := Ideal) T W w (ix2 l ⟨64 + d.val, by have := d.isLt; omega⟩) = T (ix2 l d) := by
  pointwise [k0_pay5, k0_pay3]

/-- The last column: the row's squares, with their sign and weight. -/
theorem prepared_squares (T : Vec Ideal S32x16 .f32) (W : Vec Ideal S94x64 .f32) (w : Vec Ideal S1x1 .f32)
    (l : Fin 32) :
    k0_pay5 (F := Ideal) T W w (ix2 l ⟨80, by omega⟩)
      = (0 - ∑ d : Fin 16, T (ix2 l d) * T (ix2 l d)) * (half * w (ix2 0 0)) := by
  pointwise [k0_pay5, k0_pay3]

/-- The block's result at one row is the score of that row. -/
theorem body_apply (cat : Vec Ideal S4096x4 .i32) (cont : Vec Ideal S4096x30 .f32) (T : Vec Ideal S32x16 .f32)
    (W : Vec Ideal S94x64 .f32) (b1 : Vec Ideal S64 .f32) (W2 : Vec Ideal S64x32 .f32) (b2 : Vec Ideal S32 .f32)
    (w0 : Vec Ideal S1x1 .f32) (w1 : Vec Ideal S32x1 .f32) (bo : Vec Ideal S1 .f32)
    (r : Fin 4096) (c : Fin 4 → Fin 8) (hc : ∀ g : Fin 4, cat (ix2 r g) = BitVec.ofNat 32 (c g).val)
    (E : Fin 4 → Fin 16 → EReal) (hT : ∀ g d, T (ix2 (lane g (c g)) d) = E g d)
    (hE : ∀ g d, ∃ x : ℝ, E g d = x) (Wo : Fin 33 → EReal) (hw0 : w0 (ix2 0 0) = Wo 0)
    (hw1 : ∀ k : Fin 32, w1 (ix2 k 0) = Wo ⟨1 + k.val, by have := k.isLt; omega⟩) (hWo : ∃ x : ℝ, Wo 0 = x) :
    k0_pay1 (F := Ideal) w1 (k0_pay4 w0)
      (k0_pay10 (k0_pay5 T W w0) (k0_pay6 cat) (iota .tc S4x32 32 [0] iota_S4x32_d0_w32)
        (iota .tc S4x32 32 [1] iota_S4x32_d1_w32) 8#32 k0_pay7 k0_pay8)
      (k0_pay11 (k0_pay5 T W w0) (k0_pay6 cat) (iota .tc S4x32 32 [0] iota_S4x32_d0_w32)
        (iota .tc S4x32 32 [1] iota_S4x32_d1_w32) 8#32 k0_pay7 k0_pay8)
      (k0_pay12 (k0_pay2 W) (k0_pay5 T W w0) (k0_pay6 cat) (iota .tc S4x32 32 [0] iota_S4x32_d0_w32)
        (iota .tc S4x32 32 [1] iota_S4x32_d1_w32) 8#32 k0_pay7 k0_pay8 cont b1)
      W2 b2 bo (ix2 r 0)
      = score E (fun k => cont (ix2 r k)) (fun k j => W (ix2 k j)) (fun j => b1 (ix1 j))
          (fun j k => W2 (ix2 j k)) (fun k => b2 (ix1 k)) Wo (bo (ix1 0)) := by
  pointwise [k0_pay1, k0_pay4, k0_pay3, k0_pay10, k0_pay11, k0_pay12, k0_pay2]
  have part := fun j => Lanes.part_apply (k0_pay5 T W w0) cat r j c hc
  have emb : ∀ d : Fin 16, k0_pay9 (k0_pay5 T W w0) (k0_pay6 cat) (iota .tc S4x32 32 [0] iota_S4x32_d0_w32)
      (iota .tc S4x32 32 [1] iota_S4x32_d1_w32) 8#32 k0_pay7 k0_pay8
        (ix2 r ⟨64 + d.val, by have := d.isLt; omega⟩) = ∑ g, E g d := fun d =>
    (part _).trans (Finset.sum_congr rfl fun g _ => (prepared_row T W w0 (lane g (c g)) d).trans (hT g d))
  have sq : k0_pay9 (k0_pay5 T W w0) (k0_pay6 cat) (iota .tc S4x32 32 [0] iota_S4x32_d0_w32)
      (iota .tc S4x32 32 [1] iota_S4x32_d1_w32) 8#32 k0_pay7 k0_pay8 (ix2 r 80)
        = ∑ g, (0 - ∑ d, E g d * E g d) * (half * Wo 0) :=
    (part _).trans (Finset.sum_congr rfl fun g _ => (prepared_squares T W w0 (lane g (c g))).trans (by
      simp only [hT, hw0]))
  have hid : ∀ j : Fin 64, k0_pay9 (k0_pay5 T W w0) (k0_pay6 cat) (iota .tc S4x32 32 [0] iota_S4x32_d0_w32)
      (iota .tc S4x32 32 [1] iota_S4x32_d1_w32) 8#32 k0_pay7 k0_pay8 (ix2 r ⟨j.val, by have := j.isLt; omega⟩)
        = ∑ g : Fin 4, ∑ d : Fin 16, E g d
            * W (ix2 ⟨g.val * 16 + d.val, by have := g.isLt; have := d.isLt; omega⟩ j) := fun j =>
    (part _).trans (Finset.sum_congr rfl fun g _ => (prepared_hidden T W w0 g (c g) j).trans (by
      simp only [hT]))
  simp only [emb, sq, hid, hw0, hw1]
  rw [show Ideal.ofBits FTy.f32 1056964608#32 = half from rfl, pairs_mul E (Wo 0) hE hWo]
  rfl

end Cert.KernelIdeal.Block

end
-- ==== Proof.Final.lean ====
/-
  What the result array holds after the kernel's run: every row's score.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Final

open Idealize.ShloMosaic Idealize.ShloMosaic.TcCoe Cert.KernelIdeal Cert.KernelIdeal.Gen Cert.Model

variable (m : (ℓ : Loc nD τ sig) → Buf (Elt Ideal) ℓ)

/-- The blocks' places: the rows go by the grid point, every other block is its whole array. -/
theorem idx : ∀ t : Fin cfg0.N, win0_0.index t = ![t.val, 0] ∧ win0_1.index t = ![t.val, 0] ∧
    win0_2.index t = ![0, 0] ∧ win0_3.index t = ![0, 0] ∧ win0_4.index t = ![0] ∧ win0_5.index t = ![0, 0] ∧
    win0_6.index t = ![0] ∧ win0_7.index t = ![0, 0] ∧ win0_8.index t = ![0] ∧ win0_9.index t = ![t.val, 0] ∧
    t.val < 4 :=
  (by decide +kernel : ∀ t : Fin grid0.N, _)

/-- The stacked tables: the first table, then the first eight rows of each of the others. -/
theorem stacked_eq (c : Dev nD) : V m c main_v3 = concatenate S32x16 0
    [⟨S8x16, m ((c : Thread nD τ).loc main_arg2)⟩,
     ⟨S8x16, extractStridedSlice S8x16 ![0, 0] (m ((c : Thread nD τ).loc main_arg3)) Gen.facts.slices_S10x16_S8x16_0_0⟩,
     ⟨S8x16, extractStridedSlice S8x16 ![0, 0] (m ((c : Thread nD τ).loc main_arg4)) Gen.facts.slices_S1000000x16_S8x16_0_0⟩,
     ⟨S8x16, extractStridedSlice S8x16 ![0, 0] (m ((c : Thread nD τ).loc main_arg5)) Gen.facts.slices_S1000000x16_S8x16_0_0⟩]
    Gen.facts.concatenates_S8x16_S8x16_S8x16_S8x16_S32x16_d0 := by
  delta V hostOps0
  simp only [StableHlo.after_cons, StableHlo.after_nil]
  rw [StableHlo.nary4_result, StableHlo.unary_result (y := main_v2),
    StableHlo.unary_result_ne (r := main_arg2) (y := main_v2) (h := by decide),
    StableHlo.unary_result_ne (r := main_arg2) (y := main_v1) (h := by decide),
    StableHlo.unary_result_ne (r := main_arg2) (y := main_v0) (h := by decide),
    StableHlo.unary_result_ne (r := main_v0) (y := main_v2) (h := by decide),
    StableHlo.unary_result_ne (r := main_v0) (y := main_v1) (h := by decide),
    StableHlo.unary_result (y := main_v0),
    StableHlo.unary_result_ne (r := main_v1) (y := main_v2) (h := by decide),
    StableHlo.unary_result (y := main_v1),
    StableHlo.unary_result_ne (r := main_arg4) (y := main_v0) (h := by decide),
    StableHlo.unary_result_ne (r := main_arg5) (y := main_v1) (h := by decide),
    StableHlo.unary_result_ne (r := main_arg5) (y := main_v0) (h := by decide)]
  rfl

/-- The first entry of the output weights, read off the block by the body. -/
theorem ld_first (X : Vec Ideal S33x1 .f32) : View.ld X r0_2 (ix2 0 0) = X (ix2 0 0) := by
  refine congrArg X ?_
  blk_ext
  rfl

/-- The other 32. -/
theorem ld_rest (X : Vec Ideal S33x1 .f32) (k : Fin 32) :
    View.ld X r0_3 (ix2 k 0) = X (ix2 ⟨1 + k.val, by have := k.isLt; omega⟩ 0) := by
  refine congrArg X ?_
  blk_ext
  show 1 + 1 * k.val = 1 + k.val
  omega

/-- The row of group `g` at place `p` of the stacked tables is row `p` of table `g`. -/
theorem stacked (c : Dev nD) (g : Fin 4) (p : Fin 8) (d : Fin 16) :
    (V m c main_v3 : FVec Ideal S32x16 .f32) (ix2 (Block.lane g p) d)
      = tables (m ((c : Thread nD τ).loc main_arg2)) (m ((c : Thread nD τ).loc main_arg3))
          (m ((c : Thread nD τ).loc main_arg4)) (m ((c : Thread nD τ).loc main_arg5)) g p d := by
  rw [stacked_eq]
  pointwise
  have hp := p.isLt
  match g with
  | ⟨0, _⟩ =>
    rw [dif_pos (by dsimp only; omega)]
    refine congrArg (m ((c : Thread nD τ).loc main_arg2)) ?_
    blk_ext
  | ⟨1, _⟩ =>
    rw [dif_neg (by dsimp only; omega), dif_pos (by dsimp only; omega)]
    refine congrArg (m ((c : Thread nD τ).loc main_arg3)) ?_
    blk_ext
  | ⟨2, _⟩ =>
    rw [dif_neg (by dsimp only; omega), dif_neg (by dsimp only; omega), dif_pos (by dsimp only; omega)]
    refine congrArg (m ((c : Thread nD τ).loc main_arg4)) ?_
    blk_ext
  | ⟨3, _⟩ =>
    rw [dif_neg (by dsimp only; omega), dif_neg (by dsimp only; omega), dif_neg (by dsimp only; omega)]
    refine congrArg (m ((c : Thread nD τ).loc main_arg5)) ?_
    blk_ext

/-- After the run the result array holds every row's score, when every category is in range and the first eight rows of
    each table and the first output weight are real numbers. -/
theorem final (c : Dev nD)
    (hin : InRange (m ((c : Thread nD τ).loc main_arg0)))
    (htab : ∀ g p d, ∃ x : ℝ, tables (m ((c : Thread nD τ).loc main_arg2)) (m ((c : Thread nD τ).loc main_arg3))
        (m ((c : Thread nD τ).loc main_arg4)) (m ((c : Thread nD τ).loc main_arg5)) g p d = x)
    (hWo : ∃ x : ℝ, (m ((c : Thread nD τ).loc main_arg10) : FVec Ideal S33x1 .f32) (ix2 0 0) = (x : EReal)) :
    (dats m 0 c).arrAt 9 (cfgs 0).N
    = scores (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  refine (dats m 0 c).arrAt_eq_of_covers 9 _ (by decide +kernel) fun t _ y => ?_
  blk_simp
  rw [after0_9]
  frame_out
  unfold k0_pay13 k0_pay14 k0_pay15 k0_pay16 k0_pay17 k0_pay18
  frame_out
  obtain ⟨r, hr⟩ : ∃ r : Fin 4096, y = ix2 r (0 : Fin 1) := by
    refine ⟨y 0, ?_⟩
    blk_ext
  have ht : t.val < 4 := (idx t).2.2.2.2.2.2.2.2.2.2
  subst hr
  have he : ((View.whole main_v4).slice (win0_9.rect t)).emb (ix2 r (0 : Fin 1))
      = ix2 (⟨t.val * 4096 + r.val, by have := r.isLt; omega⟩ : Fin 16384) (0 : Fin 1) := by
    blk_ext [idx t]
  rw [he]
  refine (Block.body_apply (iblk m c 0 t) (iblk m c 1 t) (iblk m c 2 t) (iblk m c 3 t) (iblk m c 4 t) (iblk m c 5 t)
    (iblk m c 6 t) (View.ld (iblk m c 7 t) r0_2) (View.ld (iblk m c 7 t) r0_3) (iblk m c 8 t) r
    (named (m ((c : Thread nD τ).loc main_arg0)) ⟨t.val * 4096 + r.val, by have := r.isLt; omega⟩) ?_
    (fun g d => tables (m ((c : Thread nD τ).loc main_arg2)) (m ((c : Thread nD τ).loc main_arg3))
        (m ((c : Thread nD τ).loc main_arg4)) (m ((c : Thread nD τ).loc main_arg5)) g
        (named (m ((c : Thread nD τ).loc main_arg0)) ⟨t.val * 4096 + r.val, by have := r.isLt; omega⟩ g) d) ?_ ?_
    (fun k => (m ((c : Thread nD τ).loc main_arg10) : FVec Ideal S33x1 .f32) (ix2 k 0)) ?_ ?_ ?_).trans ?_
  · intro g
    refine Eq.trans ?_ (hin.eq_ofNat _ g)
    blk_ext [iblk, V, idx t]
  · intro g d
    refine Eq.trans ?_ (stacked m c g _ d)
    blk_ext [iblk, idx t]
  · exact fun g d => htab g _ d
  · refine (ld_first _).trans ?_
    blk_ext [iblk, V, idx t]
  · intro k
    refine (ld_rest _ k).trans ?_
    blk_ext [iblk, V, idx t]
  · exact hWo
  · unfold scores
    congr 1
    · funext k
      blk_ext [iblk, V, idx t]
    · funext k j
      blk_ext [iblk, V, idx t]
    · funext j
      blk_ext [iblk, V, idx t]
    · funext j k
      blk_ext [iblk, V, idx t]
    · funext k
      blk_ext [iblk, V, idx t]
    · blk_ext [iblk, V, idx t]

end Cert.KernelIdeal.Final

end
-- ==== Proof.Take.lean ====
/-
  What the reference's four table reads give when every category is in range: the row the category names.
-/
module

public import proofs.«01_k».proof.Proof.Model
public import proofs.«01_k».proof.Proof.Gen.ReferenceIdeal.Read
public import Idealize.ShloMosaic.Lib.Pointwise
public import Idealize.ShloMosaic.Lib.ReduceAll
public import Idealize.ShloMosaic.Lib.Routing.Ops

@[expose] public section

set_option maxRecDepth 16384

noncomputable section

namespace Cert.ReferenceIdeal.Take

open Idealize.ShloMosaic Idealize.ShloMosaic.TcCoe Cert.ReferenceIdeal Cert.ReferenceIdeal.Read Cert.Model

/-- A word below eight passes every check of the four reads: it is not negative, and at most each table's last row. -/
theorem word_in : ∀ p : Fin 8, IntOp.cmpi .slt (BitVec.ofNat 32 p.val) 0#32 = 0#1 ∧
    IntOp.cmpi .sge (BitVec.ofNat 32 p.val) 0#32 = 1#1 ∧ IntOp.cmpi .sle (BitVec.ofNat 32 p.val) 7#32 = 1#1 ∧
    IntOp.cmpi .sle (BitVec.ofNat 32 p.val) 9#32 = 1#1 ∧ IntOp.cmpi .sle (BitVec.ofNat 32 p.val) 999999#32 = 1#1 := by
  decide +kernel

/-- A checked read of a table's rows, at a start column whose words name rows in range: the row named. -/
theorem take_apply {N : Nat} (hN : N < 2 ^ 31)
    (d : GatherDims ⟨2, ![N, 16]⟩ S16384x1 S16384x16) (hoff : d.offsetDims = [1]) (hcoll : d.collapsedSliceDims = [0])
    (hob : d.operandBatchingDims = []) (hsim : d.startIndexMap = [0]) (hivd : d.indexVectorDim = 1)
    (tbl : Mat N 16) (start zero last : IVec S16384x1 32) (one : IVec S_ 1) (nan : FVec Ideal S16384x16 .f32)
    (hr : S16384x1.ReducesTo [1] S16384) (hu : 0 < S_.numel) (hb : S16384.BroadcastsInDim S16384x16 ![0])
    (b : Fin 16384 → Fin N) (hs : ∀ i : Fin 16384, start (ix2 i 0) = BitVec.ofNat 32 (b i).val)
    (hz : ∀ i : Fin 16384, IntOp.cmpi .sge (start (ix2 i 0)) (zero (ix2 i 0)) = 1#1)
    (hl : ∀ i : Fin 16384, IntOp.cmpi .sle (start (ix2 i 0)) (last (ix2 i 0)) = 1#1)
    (h1 : one (Shape.Idx.first hu) = 1#1) (i : Fin 16384) (y : Fin 16) :
    select (broadcastInDim S16384x16 ![0] hb
        (Host.reduce IntOp.andi (andi (cmpi .sge start zero) (cmpi .sle start last)) one hr hu))
      (Host.gather d tbl start) nan (ix2 i y) = tbl (ix2 (b i) y) := by
  pointwise
  rw [Finset.univ_unique, Finset.fold_singleton]
  have hg : Host.gather d tbl start (ix2 i y) = tbl (ix2 (b i) y) := by
    simp only [ix2_eq_valueIdx]
    exact Routing.gather_row d hoff hcoll hob hsim hivd tbl start i y (b i) (by rw [← ix2_eq_valueIdx]; exact hs i) hN
  have hm : IntOp.cmpi .sge (start (ix2 i default)) (zero (ix2 i default)) = 1#1 := hz i
  have hm' : IntOp.cmpi .sle (start (ix2 i default)) (last (ix2 i default)) = 1#1 := hl i
  rw [hm, hm', h1, hg]
  rfl

/-- The first read starts at the word of the row named. -/
theorem start0 (x0 : Cats) (h : InRange x0) (i : Fin 16384) :
    val_main_call0_v5 (F := Ideal) x0 (ix2 i 0) = BitVec.ofNat 32 (named x0 i 0).val := by
  pointwise [val_main_call0_v5, val_main_call0_v4, val_main_call0_v3, val_main_call0_v2, val_main_call0_v1,
    val_main_call0_v0, val_main_call0_c, val_main_call0_c_0, val_main_v1, val_main_v0]
  rw [h.eq_ofNat, (word_in _).1]
  rfl

/-- The first read gives the row named. -/
theorem take0 (x0 : Cats) (h : InRange x0) (x2 : Mat 8 16) (i : Fin 16384) (y : Fin 16) :
    val_main_v2 (F := Ideal) x0 x2 (ix2 i y) = x2 (ix2 (named x0 i 0) y) := by
  unfold val_main_v2 val_main_call0_v14 val_main_call0_v13 val_main_call0_v12 val_main_call0_v11 val_main_call0_v10
    val_main_call0_v7
  refine take_apply (by decide) _ rfl rfl rfl rfl rfl x2 _ _ _ _ _ _ _ _ (fun i => named x0 i 0) (start0 x0 h)
    (fun i => ?_) (fun i => ?_) rfl i y
  · rw [start0 x0 h]
    pointwise [val_main_call0_v6, val_main_call0_c_2]
    exact (word_in _).2.1
  · rw [start0 x0 h]
    pointwise [val_main_call0_v9, val_main_call0_v8, val_main_call0_c_1]
    exact (word_in _).2.2.1

/-- The second read starts at the word of the row named. -/
theorem start1 (x0 : Cats) (h : InRange x0) (i : Fin 16384) :
    val_main_call1_v5 (F := Ideal) x0 (ix2 i 0) = BitVec.ofNat 32 (named x0 i 1).val := by
  pointwise [val_main_call1_v5, val_main_call1_v4, val_main_call1_v3, val_main_call1_v2, val_main_call1_v1,
    val_main_call1_v0, val_main_call1_c, val_main_call1_c_0, val_main_v4, val_main_v3]
  rw [h.eq_ofNat, (word_in _).1]
  rfl

/-- The second read gives the row named. -/
theorem take1 (x0 : Cats) (h : InRange x0) (x3 : Mat 10 16) (i : Fin 16384) (y : Fin 16) :
    val_main_v5 (F := Ideal) x0 x3 (ix2 i y) = x3 (ix2 ⟨(named x0 i 1).val, by have := (named x0 i 1).isLt; omega⟩ y) := by
  unfold val_main_v5 val_main_call1_v14 val_main_call1_v13 val_main_call1_v12 val_main_call1_v11 val_main_call1_v10
    val_main_call1_v7
  refine take_apply (by decide) _ rfl rfl rfl rfl rfl x3 _ _ _ _ _ _ _ _ (fun i => ⟨(named x0 i 1).val, by have := (named x0 i 1).isLt; omega⟩) (start1 x0 h)
    (fun i => ?_) (fun i => ?_) rfl i y
  · rw [start1 x0 h]
    pointwise [val_main_call1_v6, val_main_call1_c_2]
    exact (word_in _).2.1
  · rw [start1 x0 h]
    pointwise [val_main_call1_v9, val_main_call1_v8, val_main_call1_c_1]
    exact (word_in _).2.2.2.1

/-- The third read starts at the word of the row named. -/
theorem start2 (x0 : Cats) (h : InRange x0) (i : Fin 16384) :
    val_main_call2_v5 (F := Ideal) x0 (ix2 i 0) = BitVec.ofNat 32 (named x0 i 2).val := by
  pointwise [val_main_call2_v5, val_main_call2_v4, val_main_call2_v3, val_main_call2_v2, val_main_call2_v1,
    val_main_call2_v0, val_main_call2_c, val_main_call2_c_0, val_main_v7, val_main_v6]
  rw [h.eq_ofNat, (word_in _).1]
  rfl

/-- The third read gives the row named. -/
theorem take2 (x0 : Cats) (h : InRange x0) (x4 : Mat 1000000 16) (i : Fin 16384) (y : Fin 16) :
    val_main_v8 (F := Ideal) x0 x4 (ix2 i y) = x4 (ix2 ⟨(named x0 i 2).val, by have := (named x0 i 2).isLt; omega⟩ y) := by
  unfold val_main_v8 val_main_call2_v14 val_main_call2_v13 val_main_call2_v12 val_main_call2_v11 val_main_call2_v10
    val_main_call2_v7
  refine take_apply (by decide) _ rfl rfl rfl rfl rfl x4 _ _ _ _ _ _ _ _ (fun i => ⟨(named x0 i 2).val, by have := (named x0 i 2).isLt; omega⟩) (start2 x0 h)
    (fun i => ?_) (fun i => ?_) rfl i y
  · rw [start2 x0 h]
    pointwise [val_main_call2_v6, val_main_call2_c_2]
    exact (word_in _).2.1
  · rw [start2 x0 h]
    pointwise [val_main_call2_v9, val_main_call2_v8, val_main_call2_c_1]
    exact (word_in _).2.2.2.2

/-- The fourth read starts at the word of the row named. -/
theorem start3 (x0 : Cats) (h : InRange x0) (i : Fin 16384) :
    val_main_call3_v5 (F := Ideal) x0 (ix2 i 0) = BitVec.ofNat 32 (named x0 i 3).val := by
  pointwise [val_main_call3_v5, val_main_call3_v4, val_main_call3_v3, val_main_call3_v2, val_main_call3_v1,
    val_main_call3_v0, val_main_call3_c, val_main_call3_c_0, val_main_v10, val_main_v9]
  rw [h.eq_ofNat, (word_in _).1]
  rfl

/-- The fourth read gives the row named. -/
theorem take3 (x0 : Cats) (h : InRange x0) (x5 : Mat 1000000 16) (i : Fin 16384) (y : Fin 16) :
    val_main_v11 (F := Ideal) x0 x5 (ix2 i y) = x5 (ix2 ⟨(named x0 i 3).val, by have := (named x0 i 3).isLt; omega⟩ y) := by
  unfold val_main_v11 val_main_call3_v14 val_main_call3_v13 val_main_call3_v12 val_main_call3_v11 val_main_call3_v10
    val_main_call3_v7
  refine take_apply (by decide) _ rfl rfl rfl rfl rfl x5 _ _ _ _ _ _ _ _ (fun i => ⟨(named x0 i 3).val, by have := (named x0 i 3).isLt; omega⟩) (start3 x0 h)
    (fun i => ?_) (fun i => ?_) rfl i y
  · rw [start3 x0 h]
    pointwise [val_main_call3_v6, val_main_call3_c_2]
    exact (word_in _).2.1
  · rw [start3 x0 h]
    pointwise [val_main_call3_v9, val_main_call3_v8, val_main_call3_c_1]
    exact (word_in _).2.2.2.2

/-- The four reads stacked: component `d` of the row that category `g` of row `i` names. -/
theorem stacked (x0 : Cats) (h : InRange x0) (x2 : Mat 8 16) (x3 : Mat 10 16) (x4 x5 : Mat 1000000 16)
    (i : Fin 16384) (g : Fin 4) (d : Fin 16) :
    val_main_v16 (F := Ideal) x0 x2 x3 x4 x5 (ix3 i g d) = tables x2 x3 x4 x5 g (named x0 i g) d := by
  pointwise [val_main_v16, val_main_v15, val_main_v14, val_main_v13, val_main_v12]
  rw [take0 x0 h, take1 x0 h, take2 x0 h, take3 x0 h]
  match g with
  | ⟨0, _⟩ => rfl
  | ⟨1, _⟩ => rfl
  | ⟨2, _⟩ => rfl
  | ⟨3, _⟩ => rfl

end Cert.ReferenceIdeal.Take

end
-- ==== Proof.Ref.lean ====
/-
  What the reference computes when every category is in range: every row's score.
-/
module

public import proofs.«01_k».proof.Proof.Take

@[expose] public section

set_option maxRecDepth 16384

noncomputable section

namespace Cert.ReferenceIdeal.Ref

open Idealize.ShloMosaic Idealize.ShloMosaic.TcCoe Cert.ReferenceIdeal Cert.ReferenceIdeal.Read Cert.Model

variable (x0 : Cats) (h : InRange x0) (x1 : Mat 16384 30) (x2 : Mat 8 16) (x3 : Mat 10 16)
  (x4 x5 : Mat 1000000 16) (x6 : Mat 94 64) (x7 : Row 64) (x8 : Mat 64 32) (x9 : Row 32) (x10 : Mat 33 1) (x11 : Row 1)

/-- The four table rows that row `r` of the categories names. -/
abbrev emb (r : Fin 16384) (g : Fin 4) (d : Fin 16) : EReal := tables x2 x3 x4 x5 g (named x0 r g) d

include h

/-- The reference's pair term. -/
theorem pair_term (r : Fin 16384) : val_main_v25 (F := Ideal) x0 x2 x3 x4 x5 (ix2 r 0) = pairs (emb x0 x2 x3 x4 x5 r) := by
  pointwise [val_main_v25, val_main_v24, val_main_v23, val_main_v22, val_main_v21, val_main_v20, val_main_v19,
    val_main_v18, val_main_v17, val_main_cst, val_main_cst_0, val_main_cst_1, val_main_cst_2]
  simp only [Take.stacked x0 h]
  rfl

/-- The reference's first hidden layer. -/
theorem first_layer (r : Fin 16384) (j : Fin 64) : val_main_v32 (F := Ideal) x0 x1 x2 x3 x4 x5 x6 x7 (ix2 r j)
    = hidden1 (emb x0 x2 x3 x4 x5 r) (fun k => x1 (ix2 r k)) (fun k j => x6 (ix2 k j)) (fun j => x7 (ix1 j)) j := by
  pointwise [val_main_v32, val_main_v31, val_main_v30, val_main_v29, val_main_v28, val_main_v27, val_main_v26,
    val_main_call4_v0, val_main_call4_cst]
  simp only [Take.stacked x0 h]
  have hg : ∀ (g : Fin 4) (d : Fin 16), (⟨(g.val * 16 + d.val) / 16, by have := g.isLt; have := d.isLt; omega⟩ : Fin 4) = g :=
    fun g d => Fin.ext (by have := d.isLt; dsimp only; omega)
  have hd : ∀ (g : Fin 4) (d : Fin 16), (⟨(g.val * 16 + d.val) % 16, by have := d.isLt; omega⟩ : Fin 16) = d :=
    fun g d => Fin.ext (by have := d.isLt; dsimp only; omega)
  rw [Fin.sum_univ_tiles 4 16 rfl]
  simp only [hg, hd]
  rfl

/-- The reference's second hidden layer. -/
theorem second_layer (r : Fin 16384) (j : Fin 32) : val_main_v37 (F := Ideal) x0 x1 x2 x3 x4 x5 x6 x7 x8 x9 (ix2 r j)
    = hidden2 (hidden1 (emb x0 x2 x3 x4 x5 r) (fun k => x1 (ix2 r k)) (fun k j => x6 (ix2 k j)) (fun j => x7 (ix1 j)))
        (fun j k => x8 (ix2 j k)) (fun k => x9 (ix1 k)) j := by
  pointwise [val_main_v37, val_main_v36, val_main_v35, val_main_v34, val_main_v33, val_main_call5_v0, val_main_call5_cst]
  simp only [first_layer x0 h]
  rfl

/-- The reference's result is the array of the rows' scores. -/
theorem result :
    val_main_v42 (F := Ideal) x0 x1 x2 x3 x4 x5 x6 x7 x8 x9 x10 x11
      = scores x0 x1 x2 x3 x4 x5 x6 x7 x8 x9 x10 x11 := by
  funext i
  obtain ⟨r, rfl⟩ : ∃ r : Fin 16384, i = ix2 r (0 : Fin 1) := ⟨i 0, by
    rw [eq_ix2 i]; congr 1; exact Subsingleton.elim _ _⟩
  unfold scores
  pointwise [val_main_v42, val_main_v41, val_main_v40, val_main_v39, val_main_v38]
  rw [pair_term x0 h]
  simp only [second_layer x0 h]
  rw [Finset.univ_unique, Finset.sum_singleton]
  rfl

end Cert.ReferenceIdeal.Ref

end
-- ==== Proof.lean ====
/-
  The proof of `Cert.Claim`. The frames are the generated ones; the reference's comes from its run, and it declares no
  semaphore. The value claim joins three facts: under the precondition the kernel's result array holds the rows' scores
  (Proof/Final.lean), the reference's result is the same array (Proof/Ref.lean), and the precondition says what both need
  (Proof/Pre.lean). What a row's score is stands in Proof/Model.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_rows_named_and_finite
public import proofs.«01_k».proof.Proof.Pre
public import proofs.«01_k».proof.Proof.Final
public import proofs.«01_k».proof.Proof.Ref
public import Idealize.ShloMosaic.Adequacy
public import Idealize.ShloMosaic.Init

@[expose] public section

set_option maxRecDepth 16384

noncomputable section

namespace Cert.Proof

open Idealize.ShloMosaic Idealize.SL.Sem

/-- The reference runs, and leaves its arguments unchanged and every semaphore counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel's result and the reference's are equal. -/
theorem algebraic : Cert.algebraic_KernelIdeal_ReferenceIdeal_pre_rows_named_and_finite := by
  pair_intro
  · run_from Cert.KernelIdeal.Value.run_blocks m g
  · refine (θ_run Cert.ReferenceIdeal.defs _ _).mono (fun r hr c => ⟨(hr c).1.trans ?_, (hr c).2⟩)
      (Cert.ReferenceIdeal.Value.run (F := Ideal) m' g')
    obtain ⟨hin, htab, hWo⟩ := Cert.Pre_rows_named_and_finite.Meaning.meaning _ _ _ _ _ _ _ _ _ _ _ _ (hpre c)
    obtain ⟨a0, a1, a2, a3, a4, a5, a6, a7, a8, a9, a10, a11⟩ := hagree c
    rw [Cert.ReferenceIdeal.Read.val_main_v42_eq m' c, a0, a1, a2, a3, a4, a5, a6, a7, a8, a9, a10, a11]
    exact (Cert.ReferenceIdeal.Ref.result _ hin _ _ _ _ _ _ _ _ _ _ _).trans
      (Cert.KernelIdeal.Final.final m c hin htab hWo).symm

/-- All the claims. -/
theorem claim : Cert.Claim :=
  ⟨Cert.Kernel.Gen.facts, Cert.KernelIdeal.Gen.facts, Cert.ReferenceIdeal.Gen.facts,
    Cert.Pre_rows_named_and_finite.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, trivial, algebraic⟩

end Cert.Proof

end
